-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200 : Shape := ⟨2, ![16384, 200]⟩
abbrev S200x16384 : Shape := ⟨2, ![200, 16384]⟩
abbrev S200x1024 : Shape := ⟨2, ![200, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16384x200, .i32⟩
  | .hbm, ⟨1, _⟩ => ⟨S200x16384, .i32⟩
  | .hbm, ⟨2, _⟩ => ⟨S200x16384, .i32⟩
  | .hbm, ⟨3, _⟩ => ⟨S16384x200, .i32⟩
  | .local _ .vmem, ⟨0, _⟩ => ⟨S200x1024, .i32⟩
  | .local _ .vmem, ⟨1, _⟩ => ⟨S200x1024, .i32⟩
  | .local _ .vmem, ⟨2, _⟩ => ⟨S200x1024, .i32⟩
  | .local _ .vmem, ⟨3, _⟩ => ⟨S200x1024, .i32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S200x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x200 : Shape := ⟨2, ![16384, 200]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 281
  | .vmem => 0
  | .smem => 0
  | _ => 0

abbrev hbmTy0_0 (i : Nat) : BufTy := match i % 128 with
  | 0 => ⟨S16384x200, .i32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S16384x200, .i64⟩
  | 23 => ⟨S16384x200, .i64⟩
  | 24 => ⟨S_, .i64⟩
  | 25 => ⟨S16384x200, .i64⟩
  | 26 => ⟨S16384x200, .i64⟩
  | 27 => ⟨S_, .i64⟩
  | 28 => ⟨S16384x200, .i64⟩
  | 29 => ⟨S16384x200, .i64⟩
  | 30 => ⟨S16384x200, .i64⟩
  | 31 => ⟨S_, .i64⟩
  | 32 => ⟨S16384x200, .i64⟩
  | 33 => ⟨S16384x200, .i64⟩
  | 34 => ⟨S16384x200, .i32⟩
  | 35 => ⟨S16384x200, .i32⟩
  | 36 => ⟨S_, .i32⟩
  | 37 => ⟨S_, .i32⟩
  | 38 => ⟨S_, .i32⟩
  | 39 => ⟨S16384x200, .i32⟩
  | 40 => ⟨S16384x200, .i32⟩
  | 41 => ⟨S16384x200, .i32⟩
  | 42 => ⟨S16384x200, .i32⟩
  | 43 => ⟨S16384x200, .i32⟩
  | 44 => ⟨S_, .i32⟩
  | 45 => ⟨S16384x200, .i32⟩
  | 46 => ⟨S16384x200, .i32⟩
  | 47 => ⟨S_, .i32⟩
  | 48 => ⟨S16384x200, .i32⟩
  | 49 => ⟨S16384x200, .i32⟩
  | 50 => ⟨S16384x200, .i32⟩
  | 51 => ⟨S16384x200, .i32⟩
  | 52 => ⟨S16384x200, .i32⟩
  | 53 => ⟨S_, .i32⟩
  | 54 => ⟨S16384x200, .i32⟩
  | 55 => ⟨S16384x200, .i32⟩
  | 56 => ⟨S_, .i32⟩
  | 57 => ⟨S16384x200, .i32⟩
  | 58 => ⟨S16384x200, .i32⟩
  | 59 => ⟨S16384x200, .i32⟩
  | 60 => ⟨S16384x200, .i32⟩
  | 61 => ⟨S16384x200, .i32⟩
  | 62 => ⟨S_, .i32⟩
  | 63 => ⟨S16384x200, .i32⟩
  | 64 => ⟨S16384x200, .i32⟩
  | 65 => ⟨S_, .i32⟩
  | 66 => ⟨S16384x200, .i32⟩
  | 67 => ⟨S16384x200, .i32⟩
  | 68 => ⟨S16384x200, .i32⟩
  | 69 => ⟨S16384x200, .i32⟩
  | 70 => ⟨S16384x200, .i32⟩
  | 71 => ⟨S_, .i32⟩
  | 72 => ⟨S16384x200, .i32⟩
  | 73 => ⟨S16384x200, .i32⟩
  | 74 => ⟨S_, .i32⟩
  | 75 => ⟨S16384x200, .i32⟩
  | 76 => ⟨S16384x200, .i32⟩
  | 77 => ⟨S16384x200, .i32⟩
  | 78 => ⟨S16384x200, .i32⟩
  | 79 => ⟨S16384x200, .i32⟩
  | 80 => ⟨S16384x200, .i32⟩
  | 81 => ⟨S16384x200, .i32⟩
  | 82 => ⟨S16384x200, .i32⟩
  | 83 => ⟨S_, .i32⟩
  | 84 => ⟨S16384x200, .i32⟩
  | 85 => ⟨S16384x200, .i32⟩
  | 86 => ⟨S16384x200, .i32⟩
  | 87 => ⟨S_, .i32⟩
  | 88 => ⟨S16384x200, .i32⟩
  | 89 => ⟨S16384x200, .i32⟩
  | 90 => ⟨S_, .i32⟩
  | 91 => ⟨S16384x200, .i32⟩
  | 92 => ⟨S16384x200, .i32⟩
  | 93 => ⟨S16384x200, .i32⟩
  | 94 => ⟨S16384x200, .i32⟩
  | 95 => ⟨S16384x200, .i32⟩
  | 96 => ⟨S_, .i32⟩
  | 97 => ⟨S16384x200, .i32⟩
  | 98 => ⟨S16384x200, .i32⟩
  | 99 => ⟨S_, .i32⟩
  | 100 => ⟨S16384x200, .i32⟩
  | 101 => ⟨S16384x200, .i32⟩
  | 102 => ⟨S16384x200, .i32⟩
  | 103 => ⟨S16384x200, .i32⟩
  | 104 => ⟨S16384x200, .i32⟩
  | 105 => ⟨S_, .i32⟩
  | 106 => ⟨S16384x200, .i32⟩
  | 107 => ⟨S16384x200, .i32⟩
  | 108 => ⟨S_, .i32⟩
  | 109 => ⟨S16384x200, .i32⟩
  | 110 => ⟨S16384x200, .i32⟩
  | 111 => ⟨S16384x200, .i32⟩
  | 112 => ⟨S16384x200, .i32⟩
  | 113 => ⟨S16384x200, .i32⟩
  | 114 => ⟨S_, .i32⟩
  | 115 => ⟨S16384x200, .i32⟩
  | 116 => ⟨S16384x200, .i32⟩
  | 117 => ⟨S_, .i32⟩
  | 118 => ⟨S16384x200, .i32⟩
  | 119 => ⟨S16384x200, .i32⟩
  | 120 => ⟨S16384x200, .i32⟩
  | 121 => ⟨S16384x200, .i32⟩
  | 122 => ⟨S16384x200, .i32⟩
  | 123 => ⟨S16384x200, .i32⟩
  | 124 => ⟨S16384x200, .i32⟩
  | 125 => ⟨S16384x200, .i32⟩
  | 126 => ⟨S_, .i32⟩
  | 127 => ⟨S16384x200, .i32⟩
  | _ => ⟨S16384x200, .i32⟩

abbrev hbmTy0_1 (i : Nat) : BufTy := match i % 128 with
  | 0 => ⟨S16384x200, .i32⟩
  | 1 => ⟨S16384x200, .i32⟩
  | 2 => ⟨S_, .i32⟩
  | 3 => ⟨S16384x200, .i32⟩
  | 4 => ⟨S16384x200, .i32⟩
  | 5 => ⟨S_, .i32⟩
  | 6 => ⟨S16384x200, .i32⟩
  | 7 => ⟨S16384x200, .i32⟩
  | 8 => ⟨S16384x200, .i32⟩
  | 9 => ⟨S16384x200, .i32⟩
  | 10 => ⟨S16384x200, .i32⟩
  | 11 => ⟨S_, .i32⟩
  | 12 => ⟨S16384x200, .i32⟩
  | 13 => ⟨S16384x200, .i32⟩
  | 14 => ⟨S_, .i32⟩
  | 15 => ⟨S16384x200, .i32⟩
  | 16 => ⟨S16384x200, .i32⟩
  | 17 => ⟨S16384x200, .i32⟩
  | 18 => ⟨S16384x200, .i32⟩
  | 19 => ⟨S16384x200, .i32⟩
  | 20 => ⟨S_, .i32⟩
  | 21 => ⟨S16384x200, .i32⟩
  | 22 => ⟨S16384x200, .i32⟩
  | 23 => ⟨S_, .i32⟩
  | 24 => ⟨S16384x200, .i32⟩
  | 25 => ⟨S16384x200, .i32⟩
  | 26 => ⟨S16384x200, .i32⟩
  | 27 => ⟨S16384x200, .i32⟩
  | 28 => ⟨S16384x200, .i32⟩
  | 29 => ⟨S_, .i32⟩
  | 30 => ⟨S16384x200, .i32⟩
  | 31 => ⟨S16384x200, .i32⟩
  | 32 => ⟨S_, .i32⟩
  | 33 => ⟨S16384x200, .i32⟩
  | 34 => ⟨S16384x200, .i32⟩
  | 35 => ⟨S16384x200, .i32⟩
  | 36 => ⟨S16384x200, .i32⟩
  | 37 => ⟨S16384x200, .i32⟩
  | 38 => ⟨S16384x200, .i32⟩
  | 39 => ⟨S16384x200, .i32⟩
  | 40 => ⟨S16384x200, .i32⟩
  | 41 => ⟨S_, .i32⟩
  | 42 => ⟨S16384x200, .i32⟩
  | 43 => ⟨S16384x200, .i32⟩
  | 44 => ⟨S16384x200, .i32⟩
  | 45 => ⟨S_, .i32⟩
  | 46 => ⟨S16384x200, .i32⟩
  | 47 => ⟨S16384x200, .i32⟩
  | 48 => ⟨S_, .i32⟩
  | 49 => ⟨S16384x200, .i32⟩
  | 50 => ⟨S16384x200, .i32⟩
  | 51 => ⟨S16384x200, .i32⟩
  | 52 => ⟨S16384x200, .i32⟩
  | 53 => ⟨S16384x200, .i32⟩
  | 54 => ⟨S_, .i32⟩
  | 55 => ⟨S16384x200, .i32⟩
  | 56 => ⟨S16384x200, .i32⟩
  | 57 => ⟨S_, .i32⟩
  | 58 => ⟨S16384x200, .i32⟩
  | 59 => ⟨S16384x200, .i32⟩
  | 60 => ⟨S16384x200, .i32⟩
  | 61 => ⟨S16384x200, .i32⟩
  | 62 => ⟨S16384x200, .i32⟩
  | 63 => ⟨S_, .i32⟩
  | 64 => ⟨S16384x200, .i32⟩
  | 65 => ⟨S16384x200, .i32⟩
  | 66 => ⟨S_, .i32⟩
  | 67 => ⟨S16384x200, .i32⟩
  | 68 => ⟨S16384x200, .i32⟩
  | 69 => ⟨S16384x200, .i32⟩
  | 70 => ⟨S16384x200, .i32⟩
  | 71 => ⟨S16384x200, .i32⟩
  | 72 => ⟨S_, .i32⟩
  | 73 => ⟨S16384x200, .i32⟩
  | 74 => ⟨S16384x200, .i32⟩
  | 75 => ⟨S_, .i32⟩
  | 76 => ⟨S16384x200, .i32⟩
  | 77 => ⟨S16384x200, .i32⟩
  | 78 => ⟨S16384x200, .i32⟩
  | 79 => ⟨S16384x200, .i32⟩
  | 80 => ⟨S16384x200, .i32⟩
  | 81 => ⟨S16384x200, .i32⟩
  | 82 => ⟨S16384x200, .i32⟩
  | 83 => ⟨S16384x200, .i32⟩
  | 84 => ⟨S_, .i32⟩
  | 85 => ⟨S16384x200, .i32⟩
  | 86 => ⟨S16384x200, .i32⟩
  | 87 => ⟨S16384x200, .i32⟩
  | 88 => ⟨S_, .i32⟩
  | 89 => ⟨S16384x200, .i32⟩
  | 90 => ⟨S16384x200, .i32⟩
  | 91 => ⟨S_, .i32⟩
  | 92 => ⟨S16384x200, .i32⟩
  | 93 => ⟨S16384x200, .i32⟩
  | 94 => ⟨S16384x200, .i32⟩
  | 95 => ⟨S16384x200, .i32⟩
  | 96 => ⟨S16384x200, .i32⟩
  | 97 => ⟨S_, .i32⟩
  | 98 => ⟨S16384x200, .i32⟩
  | 99 => ⟨S16384x200, .i32⟩
  | 100 => ⟨S_, .i32⟩
  | 101 => ⟨S16384x200, .i32⟩
  | 102 => ⟨S16384x200, .i32⟩
  | 103 => ⟨S16384x200, .i32⟩
  | 104 => ⟨S16384x200, .i32⟩
  | 105 => ⟨S16384x200, .i32⟩
  | 106 => ⟨S_, .i32⟩
  | 107 => ⟨S16384x200, .i32⟩
  | 108 => ⟨S16384x200, .i32⟩
  | 109 => ⟨S_, .i32⟩
  | 110 => ⟨S16384x200, .i32⟩
  | 111 => ⟨S16384x200, .i32⟩
  | 112 => ⟨S16384x200, .i32⟩
  | 113 => ⟨S16384x200, .i32⟩
  | 114 => ⟨S16384x200, .i32⟩
  | 115 => ⟨S_, .i32⟩
  | 116 => ⟨S16384x200, .i32⟩
  | 117 => ⟨S16384x200, .i32⟩
  | 118 => ⟨S_, .i32⟩
  | 119 => ⟨S16384x200, .i32⟩
  | 120 => ⟨S16384x200, .i32⟩
  | 121 => ⟨S16384x200, .i32⟩
  | 122 => ⟨S16384x200, .i32⟩
  | 123 => ⟨S16384x200, .i32⟩
  | 124 => ⟨S16384x200, .i32⟩
  | 125 => ⟨S16384x200, .i32⟩
  | 126 => ⟨S16384x200, .i32⟩
  | 127 => ⟨S_, .i32⟩
  | _ => ⟨S16384x200, .i32⟩

abbrev hbmTy0_2 (i : Nat) : BufTy := match i % 128 with
  | 0 => ⟨S16384x200, .i32⟩
  | 1 => ⟨S16384x200, .i32⟩
  | 2 => ⟨S16384x200, .i32⟩
  | 3 => ⟨S_, .i32⟩
  | 4 => ⟨S16384x200, .i32⟩
  | 5 => ⟨S16384x200, .i32⟩
  | 6 => ⟨S_, .i32⟩
  | 7 => ⟨S16384x200, .i32⟩
  | 8 => ⟨S16384x200, .i32⟩
  | 9 => ⟨S16384x200, .f32⟩
  | 10 => ⟨S_, .f32⟩
  | 11 => ⟨S16384x200, .f32⟩
  | 12 => ⟨S16384x200, .f32⟩
  | 13 => ⟨S1x1, .f32⟩
  | 14 => ⟨S16384x200, .f32⟩
  | 15 => ⟨S16384x200, .f32⟩
  | 16 => ⟨S16384x200, .f32⟩
  | 17 => ⟨S16384x200, .f32⟩
  | 18 => ⟨S16384x200, .f32⟩
  | 19 => ⟨S16384x200, .f32⟩
  | 20 => ⟨S16384x200, .f32⟩
  | 21 => ⟨S16384x200, .i1⟩
  | 22 => ⟨S_, .i32⟩
  | 23 => ⟨S16384x200, .i32⟩
  | 24 => ⟨S16384x200, .i32⟩
  | _ => ⟨S16384x200, .i32⟩

abbrev hbmTy (i : Nat) : BufTy := match i / 128 with
  | 0 => hbmTy0_0 i
  | 1 => hbmTy0_1 i
  | 2 => hbmTy0_2 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_c : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_c_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v19_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v19_1 : Ref sig .tc := ⟨.hbm, 257, rfl⟩
abbrev main_call0_call0_v20 : Ref sig .tc := ⟨.hbm, 258, rfl⟩
abbrev main_call0_call0_c_2 : Ref sig .tc := ⟨.hbm, 259, rfl⟩
abbrev main_call0_call0_v21 : Ref sig .tc := ⟨.hbm, 260, rfl⟩
abbrev main_call0_call0_v22 : Ref sig .tc := ⟨.hbm, 261, rfl⟩
abbrev main_call0_call0_c_3 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_cst : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_call0_v33 : Ref sig .tc := ⟨.hbm, 274, rfl⟩
abbrev main_call0_v0 : Ref sig .tc := ⟨.hbm, 275, rfl⟩
abbrev main_call0_v1 : Ref sig .tc := ⟨.hbm, 276, rfl⟩
abbrev main_v7 : Ref sig .tc := ⟨.hbm, 277, rfl⟩
abbrev main_c_2 : Ref sig .tc := ⟨.hbm, 278, rfl⟩
abbrev main_v8 : Ref sig .tc := ⟨.hbm, 279, rfl⟩
abbrev main_v9 : Ref sig .tc := ⟨.hbm, 280, rfl⟩

abbrev nD : Nat := 1
abbrev τ : Topo := Topo.v7x

variable {F : FTy → Type} [FloatOps F]
-- ==== Proof.Hash.lean ====
/-
  The word that both programs draw for an element of the array: twenty rounds of the Threefry hash of the element's
  position, at the key (0, 42). Stated on 32-bit words alone, with no program in sight.
-/
module

public import Idealize.ShloMosaic.PureOps.Ideal

@[expose] public section

namespace Cert.Hash

open Idealize.ShloMosaic

/-- A 32-bit word. -/
abbrev Word := BitVec 32

/-- The word `x` turned left by `d` places, `d'` being `32 - d`: the two shifts joined. -/
def turn (d d' x : Word) : Word := IntOp.shli .vector x d ||| IntOp.shrui .vector x d'

/-- One round: the first word becomes the sum of the two, the second one that sum against the second word turned. -/
def mix (d d' : Word) (p : Word × Word) : Word × Word := (p.1 + p.2, (p.1 + p.2) ^^^ turn d d' p.2)

/-- One addition of key words: `a` to the first word, `b` to the second. -/
def inject (a b : Word) (p : Word × Word) : Word × Word := (p.1 + a, p.2 + b)

/-- The four rounds of the odd groups, -/
def roundsA (p : Word × Word) : Word × Word := mix 6#32 26#32 (mix 26#32 6#32 (mix 15#32 17#32 (mix 13#32 19#32 p)))
/-- and those of the even ones. -/
def roundsB (p : Word × Word) : Word × Word := mix 24#32 8#32 (mix 16#32 16#32 (mix 29#32 3#32 (mix 17#32 15#32 p)))

/-- The four rounds of the first group where the first word is zero: its sum with the second is the second. -/
def roundsA₀ (w : Word) : Word × Word :=
  mix 6#32 26#32 (mix 26#32 6#32 (mix 15#32 17#32 (w, w ^^^ turn 13#32 19#32 w)))

/-- What follows the first four rounds: the key words 0, 42 and 466689008 are added after each group of four, with the
    group's number. -/
def finish (p : Word × Word) : Word × Word :=
  inject 466689008#32 5#32 (roundsA (inject 42#32 466689012#32 (roundsB (inject 0#32 45#32 (roundsA
    (inject 466689008#32 2#32 (roundsB (inject 42#32 466689009#32 p))))))))

/-- The word drawn from the counter `w` (the key word 42 already added to it): the two hashed words against each other. -/
def bits (w : Word) : Word := (finish (roundsA₀ w)).1 ^^^ (finish (roundsA₀ w)).2

/-- Starting at a first word of zero, the first group is the shortened one. -/
theorem roundsA_zero (w : Word) : roundsA (0#32, w) = roundsA₀ w := by
  have h : (0#32 + w) = w := by simp
  simp only [roundsA, roundsA₀, mix, h]

/-- A turn by in-range amounts is the two shifts, on whichever unit they are carried out. -/
theorem turn_eq (u : ArithUnit) (d d' x : Word) (hd : d.toNat < 32) (hd' : d'.toNat < 32) :
    IntOp.shli u x d ||| IntOp.shrui u x d' = turn d d' x := by
  simp only [turn, IntOp.shli, IntOp.shrui, if_pos hd, if_pos hd']

/-- The counter of the element in row `b` and column `s` of the array of rows of 200, the key word 42 added. -/
def counter (b s : ℕ) : Word := BitVec.ofNat 32 (200 * b + s) + 42#32

/-- What both programs leave in row `b` and column `s`, from the element `x` found there: `x` where the word drawn,
    read as a signed number, is not negative, and 5 elsewhere. -/
def replaced (b s : ℕ) (x : Word) : Word := if IntOp.cmpi .sge (bits (counter b s)) 0#32 = 1#1 then x else 5#32

end Cert.Hash
-- ==== Proof.KernelBlock.lean ====
/-
  What the kernel's body leaves in one block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Hash
public import Idealize.ShloMosaic.Lib.Pipeline.ValueKit

@[expose] public section

set_option maxRecDepth 16384

noncomputable section

namespace Cert.KernelIdeal.Block

open Cert.KernelIdeal Cert.KernelIdeal.Gen Cert.Hash Idealize.ShloMosaic

variable {F : FTy → Type} [FloatOps F]

/-- A pair of words at every element of a block. -/
abbrev Pairs := S200x1024.Idx → Word × Word

/-- The words before the first key addition, at grid point `i`. -/
def first (i : grid0.Coords) : Pairs := fun j => roundsA₀ (k0_pay1 i j)

/-- The words the body starts from are the counters of 1024 rows from row `1024 * i` on, a row down each lane. -/
theorem start_apply (i : grid0.Coords) (j : S200x1024.Idx) : k0_pay1 i j = counter (1024 * i 0 + j 1) (j 0) := by
  unfold k0_pay1 counter
  pointwise
  simp only [IntOp.addi, IntOp.muli, Scalar.addi, Scalar.muli]
  apply BitVec.eq_of_toNat_eq
  simp only [BitVec.toNat_add, BitVec.toNat_mul, BitVec.toNat_ofNat]
  omega

/-- The second words after the first key addition (`a`), their sums with the first ones, and the second words shifted. -/
theorem part1 (i : grid0.Coords) :
    k0_pay8 i = (fun j => (inject 42#32 466689009#32 (first i j)).2)
    ∧ k0_pay9 i = (fun j => (inject 42#32 466689009#32 (first i j)).1 + (inject 42#32 466689009#32 (first i j)).2)
    ∧ k0_pay10 i = (fun j => IntOp.shli .vector (inject 42#32 466689009#32 (first i j)).2 17#32) := by
  refine ⟨?_, ?_, ?_⟩ <;> sl_kernel_rfl

/-- The second part carries a pair through the second group, a key addition and two rounds. -/
theorem part2 (p : Pairs) :
    let v40 : IVec S200x1024 32 := fun j => (p j).2
    let v41 : IVec S200x1024 32 := fun j => (p j).1 + (p j).2
    let v43 : IVec S200x1024 32 := fun j => IntOp.shli .vector (p j).2 17#32
    let q : Pairs := fun j => mix 15#32 17#32 (mix 13#32 19#32 (inject 466689008#32 2#32 (roundsB (p j))))
    k0_pay21 v40 v41 v43 = (fun j => (q j).2)
    ∧ k0_pay22 v40 v41 v43 = (fun j => (q j).1 + (q j).2)
    ∧ k0_pay23 v40 v41 v43 = (fun j => IntOp.shli .vector (q j).2 26#32) := by
  refine ⟨?_, ?_, ?_⟩ <;> sl_kernel_rfl

/-- The third part carries it through the rest of that group, a key addition and the fourth group. -/
theorem part3 (p : Pairs) :
    let v86 : IVec S200x1024 32 := fun j => (p j).2
    let v87 : IVec S200x1024 32 := fun j => (p j).1 + (p j).2
    let v89 : IVec S200x1024 32 := fun j => IntOp.shli .vector (p j).2 26#32
    let q : Pairs := fun j => roundsB (inject 0#32 45#32 (mix 6#32 26#32 (mix 26#32 6#32 (p j))))
    k0_pay34 v86 v87 v89 = (fun j => (q j).2) ∧ k0_pay35 v86 v87 v89 = (fun j => (q j).1 + 42#32) := by
  refine ⟨?_, ?_⟩ <;> sl_kernel_rfl

/-- The fourth part finishes the hash and selects by the sign of the word drawn. -/
theorem part4 (p : Pairs) (y : Vec F S200x1024 .i32) :
    let q : Pairs := fun j => inject 466689008#32 5#32 (roundsA (inject 42#32 466689012#32 (p j)))
    k0_pay36 (fun j => (p j).2) (fun j => (p j).1 + 42#32) 466689012#32 y
      = select (cmpi .sge (fun j => (q j).1 ^^^ (q j).2) (broadcast S200x1024 0#32))
          (shapeCast S200x1024 y shapeCasts_S200x1024_S200x1024) (broadcast S200x1024 5#32) := by
  intro q
  sl_kernel_rfl

/-- What the body stores at an element: the element of its input where the word drawn there is not negative, 5 elsewhere. -/
theorem stored_apply (i : grid0.Coords) (x y : Vec F S200x1024 .i32) (j : S200x1024.Idx) :
    k0_pay36 (k0_pay34 (k0_pay40 i x) (k0_pay41 i x) (k0_pay42 i x)) (k0_pay35 (k0_pay40 i x) (k0_pay41 i x) (k0_pay42 i x))
        466689012#32 y j
      = replaced (1024 * i 0 + j 1) (j 0) (y j) := by
  simp only [k0_pay40, k0_pay41, k0_pay42, k0_pay37, k0_pay38, k0_pay39, (part1 i).1, (part1 i).2.1, (part1 i).2.2]
  have h2 := part2 fun j => inject 42#32 466689009#32 (first i j)
  dsimp only at h2
  rw [h2.1, h2.2.1, h2.2.2]
  have h3 := part3 fun j => mix 15#32 17#32 (mix 13#32 19#32 (inject 466689008#32 2#32 (roundsB
    (inject 42#32 466689009#32 (first i j)))))
  dsimp only at h3
  rw [h3.1, h3.2, part4, shapeCast_self]
  unfold replaced
  rw [← start_apply]
  rfl

end Cert.KernelIdeal.Block
-- ==== Proof.KernelArray.lean ====
/-
  What the kernel's program leaves in its result array.
-/
module

public import proofs.«01_k».proof.Proof.KernelBlock
public import Idealize.ShloMosaic.Lib.Claim

@[expose] public section

set_option maxRecDepth 16384

noncomputable section

namespace Cert.KernelIdeal.Array

open Cert.KernelIdeal Cert.KernelIdeal.Gen Cert.Hash Idealize.ShloMosaic Idealize.ShloMosaic.TcCoe Idealize.SL.Sem

variable {F : FTy → Type} [FloatOps F]
variable (m : (ℓ : Loc nD τ sig) → Buf (Elt F) ℓ) (ρ : Dev nD → PrngReg)

/-- The columns of grid point `t`'s blocks: every row, and columns from `1024 * t` on. -/
theorem index_eq : ∀ t, win0_0.index t = ![0, (grid0.coords t 0).val] ∧ win0_1.index t = ![0, (grid0.coords t 0).val] := by
  decide +kernel

/-- The kernel's output array: every element of its input array replaced, the array standing on its side (rows of the
    problem run down it). -/
theorem out_eq (c : Dev nD) : (dats m 0 c).arrAt 1 (cfgs 0).N
    = fun y : S200x16384.Idx => replaced (y 1) (y 0) (V m c main_v0 y) := by
  refine (dats m 0 c).arrAt_eq_of_covers 1 _ (by decide +kernel) fun t hf y => ?_
  blk_simp
  rw [after0_1]
  frame_out
  rw [Block.stored_apply]
  have e : iblk m c 0 t y = V m c main_v0 (((View.whole main_v1).slice (win0_1.rect t)).emb y) := by
    blk_ext [iblk, V, index_eq t]
  rw [e, (index_eq t).2]
  show replaced _ _ _ = replaced ((grid0.coords t 0).val * 1024 + (y 1).val) (0 * 200 + (y 0).val) _
  rw [Nat.mul_comm, Nat.zero_mul, Nat.zero_add]

/-- The array the kernel reads is the argument on its side. -/
theorem entry_eq (c : Dev nD) :
    V m c main_v0 = transpose S200x16384 [1, 0] (m ((c : Thread nD τ).loc main_arg0) : Vec F S16384x200 .i32)
      transposes_S16384x200_S200x16384_1_0 := by
  show StableHlo.after hostOps0 (fun b => m (c, b)) (Proc.devRef .tc main_v0) = _
  rw [hostOps0, StableHlo.after_cons, StableHlo.after_nil, StableHlo.unary_result']

/-- The result array: the kernel's output array turned back. -/
theorem result_eq (c : Dev nD) : Pipeline.afterTail₀ cfgs (dats m) 0 (V0 m) [hostOps1] c main_v2
    = (fun y : S16384x200.Idx => replaced (y 0) (y 1) ((m ((c : Thread nD τ).loc main_arg0) : Vec F S16384x200 .i32) y)) := by
  show StableHlo.after hostOps1 (Pipeline.withArrays (cfgs 0).spec c (V0 m c) fun w => (dats m 0 c).arrAt w (cfgs 0).N)
    (Proc.devRef .tc main_v2) = _
  rw [hostOps1, StableHlo.after_cons, StableHlo.after_nil, StableHlo.unary_result']
  have e : Pipeline.withArrays (cfgs 0).spec c (V0 m c) (fun w => (dats m 0 c).arrAt w (cfgs 0).N) (Proc.devRef .tc main_v1)
      = (dats m 0 c).arrAt 1 (cfgs 0).N :=
    Pipeline.withArrays_arr (cfgs 0).spec (by decide) c (V0 m c) (fun w => (dats m 0 c).arrAt w (cfgs 0).N) 1
  rw [e, out_eq, entry_eq]
  funext y
  pointwise

/-- The run: the result array holds every element of the argument array replaced, the argument unchanged. -/
theorem run : θ_run defs (onTc (τ := τ) (main (F := F))) ⟨m, fun _ => 0, ρ⟩ fun r => ∀ c : Dev nD,
      r.2.mem ((c : Thread nD τ).loc main_v2)
        = (fun y : S16384x200.Idx => replaced (y 0) (y 1) ((m ((c : Thread nD τ).loc main_arg0) : Vec F S16384x200 .i32) y))
      ∧ r.2.mem ((c : Thread nD τ).loc main_arg0) = m ((c : Thread nD τ).loc main_arg0) := by
  run_from Gen.run_main m ρ
  · exact result_eq m c
  · exact W_main_arg0 m (dats m) c

end Cert.KernelIdeal.Array
-- ==== Proof.ReferenceOps.lean ====
/-
  The reference program as one list of operations: the hash as a list of steps, and what stands before and after it.
-/
module

public import proofs.«01_k».proof.Proof.Gen.ReferenceIdeal
public import proofs.«01_k».proof.Proof.Hash
public import Idealize.ShloMosaic.Lib.Claim
public import Idealize.ShloMosaic.Lib.StableHlo.RunHlo

@[expose] public section

set_option maxRecDepth 16384

noncomputable section

namespace Cert.ReferenceIdeal.Ops

open Cert.ReferenceIdeal Cert.ReferenceIdeal.Gen Cert.Hash Idealize.ShloMosaic Idealize.ShloMosaic.StableHlo Idealize.SL.Sem

variable {F : FTy → Type} [FloatOps F]

/-- A reference to an array of words, -/
abbrev Arr := TRef sig ⟨S16384x200, .i32⟩
/-- and to a single word. -/
abbrev One := TRef sig ⟨S_, .i32⟩

/-- A step of the hash over two arrays, with the buffers that hold its intermediate values: a round, or an addition of
    key words. -/
inductive Step where
  | mix (s : Arr) (c : One) (b l : Arr) (c' : One) (b' r o x : Arr) (d d' : Word)
  | key (ka kb : One) (b y b' y' : Arr) (c : One) (b'' z : Arr) (n : Word)

/-- The two arrays after a step. -/
def Step.out : Step → Arr × Arr
  | .mix s _ _ _ _ _ _ _ x _ _ => (s, x)
  | .key _ _ _ y _ _ _ _ z _ => (y, z)

/-- The same word at every element. -/
abbrev spread : (⟨S_, .i32⟩ : BufTy).Contents (Elt F) → (⟨S16384x200, .i32⟩ : BufTy).Contents (Elt F) :=
  broadcastInDim S16384x200 ![] bcast_S_S16384x200

/-- A step's operations, from the two arrays `x0` and `x1`. -/
def Step.ops (x0 x1 : Arr) : Step → List (HloOp τ sig (Elt F))
  | .mix s c b l c' b' r o x d d' =>
    [ TRef.binary x0 x1 s addi, TRef.nullary c (constantI S_ 32 d), TRef.unary c b spread, TRef.binary x1 b l Host.shli,
      TRef.nullary c' (constantI S_ 32 d'), TRef.unary c' b' spread, TRef.binary x1 b' r Host.shrui, TRef.binary l r o ori, TRef.binary s o x xori ]
  | .key ka kb b y b' y' c b'' z n =>
    [ TRef.unary ka b spread, TRef.binary x0 b y addi, TRef.unary kb b' spread, TRef.binary x1 b' y' addi,
      TRef.nullary c (constantI S_ 32 n), TRef.unary c b'' spread, TRef.binary y' b'' z addi ]

/-- The operations of steps one after another, each from the arrays that the one before it left. -/
def stepsOps : List Step → Arr → Arr → List (HloOp τ sig (Elt F))
  | [], _, _ => []
  | st :: sts, x0, x1 => st.ops x0 x1 ++ stepsOps sts st.out.1 st.out.2

/-- The two arrays after steps. -/
def stepsOut : List Step → Arr → Arr → Arr × Arr
  | [], x0, x1 => (x0, x1)
  | st :: sts, _, _ => stepsOut sts st.out.1 st.out.2

/-- The hash's steps: five groups of four rounds, key words added after each. -/
def hashSteps (arg0 arg1 : One) (φ : fn_threefry2x32.Bufs) : List Step := [
  .mix φ.v6 φ.c_0 φ.v7 φ.v8 φ.c_1 φ.v9 φ.v10 φ.v11 φ.v12 13#32 19#32,
  .mix φ.v13 φ.c_2 φ.v14 φ.v15 φ.c_3 φ.v16 φ.v17 φ.v18 φ.v19 15#32 17#32,
  .mix φ.v20 φ.c_4 φ.v21 φ.v22 φ.c_5 φ.v23 φ.v24 φ.v25 φ.v26 26#32 6#32,
  .mix φ.v27 φ.c_6 φ.v28 φ.v29 φ.c_7 φ.v30 φ.v31 φ.v32 φ.v33 6#32 26#32,
  .key arg1 φ.v1 φ.v34 φ.v35 φ.v36 φ.v37 φ.c_8 φ.v38 φ.v39 1#32,
  .mix φ.v40 φ.c_9 φ.v41 φ.v42 φ.c_10 φ.v43 φ.v44 φ.v45 φ.v46 17#32 15#32,
  .mix φ.v47 φ.c_11 φ.v48 φ.v49 φ.c_12 φ.v50 φ.v51 φ.v52 φ.v53 29#32 3#32,
  .mix φ.v54 φ.c_13 φ.v55 φ.v56 φ.c_14 φ.v57 φ.v58 φ.v59 φ.v60 16#32 16#32,
  .mix φ.v61 φ.c_15 φ.v62 φ.v63 φ.c_16 φ.v64 φ.v65 φ.v66 φ.v67 24#32 8#32,
  .key φ.v1 arg0 φ.v68 φ.v69 φ.v70 φ.v71 φ.c_17 φ.v72 φ.v73 2#32,
  .mix φ.v74 φ.c_18 φ.v75 φ.v76 φ.c_19 φ.v77 φ.v78 φ.v79 φ.v80 13#32 19#32,
  .mix φ.v81 φ.c_20 φ.v82 φ.v83 φ.c_21 φ.v84 φ.v85 φ.v86 φ.v87 15#32 17#32,
  .mix φ.v88 φ.c_22 φ.v89 φ.v90 φ.c_23 φ.v91 φ.v92 φ.v93 φ.v94 26#32 6#32,
  .mix φ.v95 φ.c_24 φ.v96 φ.v97 φ.c_25 φ.v98 φ.v99 φ.v100 φ.v101 6#32 26#32,
  .key arg0 arg1 φ.v102 φ.v103 φ.v104 φ.v105 φ.c_26 φ.v106 φ.v107 3#32,
  .mix φ.v108 φ.c_27 φ.v109 φ.v110 φ.c_28 φ.v111 φ.v112 φ.v113 φ.v114 17#32 15#32,
  .mix φ.v115 φ.c_29 φ.v116 φ.v117 φ.c_30 φ.v118 φ.v119 φ.v120 φ.v121 29#32 3#32,
  .mix φ.v122 φ.c_31 φ.v123 φ.v124 φ.c_32 φ.v125 φ.v126 φ.v127 φ.v128 16#32 16#32,
  .mix φ.v129 φ.c_33 φ.v130 φ.v131 φ.c_34 φ.v132 φ.v133 φ.v134 φ.v135 24#32 8#32,
  .key arg1 φ.v1 φ.v136 φ.v137 φ.v138 φ.v139 φ.c_35 φ.v140 φ.v141 4#32,
  .mix φ.v142 φ.c_36 φ.v143 φ.v144 φ.c_37 φ.v145 φ.v146 φ.v147 φ.v148 13#32 19#32,
  .mix φ.v149 φ.c_38 φ.v150 φ.v151 φ.c_39 φ.v152 φ.v153 φ.v154 φ.v155 15#32 17#32,
  .mix φ.v156 φ.c_40 φ.v157 φ.v158 φ.c_41 φ.v159 φ.v160 φ.v161 φ.v162 26#32 6#32,
  .mix φ.v163 φ.c_42 φ.v164 φ.v165 φ.c_43 φ.v166 φ.v167 φ.v168 φ.v169 6#32 26#32,
  .key φ.v1 arg0 φ.v170 φ.v171 φ.v172 φ.v173 φ.c_44 φ.v174 φ.v175 5#32 ]

/-- What the hash does before its rounds: the third key word, and the first two added to the counts. -/
def hashHead (arg0 arg1 : One) (arg2 arg3 : Arr) (φ : fn_threefry2x32.Bufs) : List (HloOp τ sig (Elt F)) :=
  [ TRef.binary arg0 arg1 φ.v0 xori,
    TRef.nullary φ.c (constantI S_ 32 466688986#32),
    TRef.binary φ.v0 φ.c φ.v1 xori,
    TRef.unary arg0 φ.v2 (broadcastInDim S16384x200 ![] bcast_S_S16384x200),
    TRef.binary arg2 φ.v2 φ.v3 addi,
    TRef.unary arg1 φ.v4 (broadcastInDim S16384x200 ![] bcast_S_S16384x200),
    TRef.binary arg3 φ.v4 φ.v5 addi ]

/-- What the uniform numbers' function does before the hash: the bounds spread, the key's two words, the counts. -/
def uniformHead (arg0 : TRef sig ⟨S2, .i32⟩) (arg1 arg2 : TRef sig ⟨S_, .f32⟩) (φ : fn_uniform.Bufs) : List (HloOp τ sig (Elt F)) :=
  [ TRef.unary arg1 φ.v0 id,
    TRef.unary arg2 φ.v1 id,
    TRef.unary φ.v0 φ.v2 (broadcastInDim S1x1 ![] bcast_S_S1x1),
    TRef.unary φ.v1 φ.v3 (broadcastInDim S1x1 ![] bcast_S_S1x1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S16384x200 64 0),
    TRef.nullary φ.v9 (iotaInDim S16384x200 64 1),
    TRef.nullary φ.c (constantI S_ 64 200#64),
    TRef.unary φ.c φ.v10 (broadcastInDim S16384x200 ![] bcast_S_S16384x200),
    TRef.binary φ.v10 φ.v8 φ.v11 muli,
    TRef.nullary φ.c_0 (constantI S_ 64 1#64),
    TRef.unary φ.c_0 φ.v12 (broadcastInDim S16384x200 ![] bcast_S_S16384x200),
    TRef.binary φ.v12 φ.v9 φ.v13 muli,
    TRef.binary φ.v11 φ.v13 φ.v14 addi,
    TRef.nullary φ.c_1 (constantI S_ 64 32#64),
    TRef.unary φ.c_1 φ.v15 (broadcastInDim S16384x200 ![] bcast_S_S16384x200),
    TRef.binary φ.v14 φ.v15 φ.v16 Host.shrui,
    TRef.unary φ.v14 φ.v17 (trunci 32 · natLt_32_64),
    TRef.unary φ.v16 φ.v18 (trunci 32 · natLt_32_64) ]

/-- What it does after the hash: the hashed words as numbers between the bounds. -/
def uniformTail (φ : fn_uniform.Bufs) : List (HloOp τ sig (Elt F)) :=
  [ TRef.binary φ.call0.v171 φ.call0.v175 φ.v20 xori,
    TRef.nullary φ.c_2 (constantI S_ 32 9#32),
    TRef.unary φ.c_2 φ.v21 (broadcastInDim S16384x200 ![] bcast_S_S16384x200),
    TRef.binary φ.v20 φ.v21 φ.v22 Host.shrui,
    TRef.nullary φ.c_3 (constantI S_ 32 1065353216#32),
    TRef.unary φ.c_3 φ.v23 (broadcastInDim S16384x200 ![] bcast_S_S16384x200),
    TRef.binary φ.v22 φ.v23 φ.v24 ori,
    TRef.unary φ.v24 φ.v25 (bitcastToFloat .f32),
    TRef.nullary φ.cst (constant S_ .f32 0x3F800000#32),
    TRef.unary φ.cst φ.v26 (broadcastInDim S16384x200 ![] bcast_S_S16384x200),
    TRef.binary φ.v25 φ.v26 φ.v27 subf,
    TRef.binary φ.v3 φ.v2 φ.v28 subf,
    TRef.unary φ.v28 φ.v29 (broadcastInDim S16384x200 ![0, 1] bcast_S1x1_S16384x200_0_1),
    TRef.binary φ.v27 φ.v29 φ.v30 mulf,
    TRef.unary φ.v2 φ.v31 (broadcastInDim S16384x200 ![0, 1] bcast_S1x1_S16384x200_0_1),
    TRef.binary φ.v30 φ.v31 φ.v32 addf,
    TRef.unary φ.v2 φ.v33 (broadcastInDim S16384x200 ![0, 1] bcast_S1x1_S16384x200_0_1),
    TRef.binary φ.v33 φ.v32 φ.v34 maximumf ]

/-- The Bernoulli function before the uniform numbers, -/
def bernoulliHead (φ : fn_bernoulli.Bufs) : List (HloOp τ sig (Elt F)) :=
  [ TRef.nullary φ.cst (constant S_ .f32 0x00000000#32),
    TRef.nullary φ.cst_0 (constant S_ .f32 0x3F800000#32) ]

/-- and after them. -/
def bernoulliTail (arg1 : TRef sig ⟨S_, .f32⟩) (φ : fn_bernoulli.Bufs) : List (HloOp τ sig (Elt F)) :=
  [ TRef.unary arg1 φ.v1 (broadcastInDim S16384x200 ![] bcast_S_S16384x200),
    TRef.binary φ.call0.v34 φ.v1 φ.v2 (cmpf .olt) ]

/-- The selection. -/
def whereOps (arg0 : TRef sig ⟨S16384x200, .i1⟩) (arg1 arg2 : Arr) (φ : fn_where.Bufs) : List (HloOp τ sig (Elt F)) :=
  [ TRef.ternary arg0 arg1 arg2 φ.v0 select ]

/-- The main function before its calls, -/
def mainHead : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x3F000000#32) ]

/-- and between them. -/
def mainTail : List (HloOp τ sig (Elt F)) :=
  [ nullary main_c_2 (constantI S_ 32 5#32),
    unary main_c_2 main_v8 (broadcastInDim S16384x200 ![] bcast_S_S16384x200 : (⟨S_, .i32⟩ : BufTy).Contents (Elt F) → (⟨S16384x200, .i32⟩ : BufTy).Contents (Elt F)) ]

/-- What stands after it: the uniform numbers from the hashed words, the comparison, the selection. -/
def behind : List (HloOp τ sig (Elt F)) :=
  uniformTail main_call0.call0 ++ bernoulliTail (.of main_cst) main_call0 ++ mainTail
    ++ whereOps (.of main_v7) (.of main_arg0) (.of main_v8) main_call1

/-- The key: two words. -/
abbrev keys : TRef sig ⟨S2, .i32⟩ := .of main_v6
/-- The argument. -/
abbrev argument : Arr := .of main_arg0
/-- The probability. -/
abbrev half : TRef sig ⟨S_, .f32⟩ := .of main_cst

/-- The reference's hash: its buffers and steps. -/
abbrev buf : fn_threefry2x32.Bufs := main_call0.call0.call0
/-- Its key words' references. -/
abbrev key0 : One := main_call0.call0.v5
@[inherit_doc key0]
abbrev key1 : One := main_call0.call0.v7

/-- All of the hash's rounds. -/
def rounds : List (HloOp τ sig (Elt F)) := stepsOps (hashSteps key0 key1 buf) buf.v3 buf.v5

/-- What stands between the key and the rounds: the bounds of the uniform numbers, the counts, the key words. -/
def middle : List (HloOp τ sig (Elt F)) :=
  bernoulliHead main_call0 ++ uniformHead (.of main_v6) main_call0.cst main_call0.cst_0 main_call0.call0
    ++ hashHead key0 key1 main_call0.call0.v18 main_call0.call0.v17 buf

set_option maxRecDepth 1000000 in
/-- The reference is the straight line of these operations. -/
theorem main_eq (d : Dev nD) : main (F := F) d = seq (mainHead ++ middle ++ rounds ++ behind) := by
  sl_kernel_rfl

end Cert.ReferenceIdeal.Ops
-- ==== Proof.ReferenceSteps.lean ====
/-
  What the steps of the reference's hash leave, element by element: one lemma per kind of step, one induction.
-/
module

public import proofs.«01_k».proof.Proof.ReferenceOps

@[expose] public section

set_option maxRecDepth 16384

noncomputable section

namespace Cert.ReferenceIdeal.Ops

open Cert.ReferenceIdeal Cert.ReferenceIdeal.Gen Cert.Hash Idealize.ShloMosaic Idealize.ShloMosaic.StableHlo Idealize.SL.Sem

variable {F : FTy → Type} [FloatOps F]

/-- What the memory `V` holds at a reference. -/
def rd {T : BufTy} (V : Valuation τ sig (Elt F)) (t : TRef sig T) : T.Contents (Elt F) := t.ofBuf (V (Proc.devRef .tc t.ref))

section Read

variable {T Ta Tb Ty : BufTy} (V : Valuation τ sig (Elt F))

/-- An operation leaves its function's value at its result. -/
theorem rd_nullary (y : TRef sig Ty) (v : Ty.Contents (Elt F)) : rd ((TRef.nullary (τ := τ) y v).result V) y = v := by
  unfold rd; rw [nullary_result', TRef.ofBuf_toBuf]
@[inherit_doc rd_nullary]
theorem rd_unary (a : TRef sig Ta) (y : TRef sig Ty) (f : Ta.Contents (Elt F) → Ty.Contents (Elt F)) :
    rd ((TRef.unary (τ := τ) a y f).result V) y = f (rd V a) := by
  unfold rd; rw [unary_result', TRef.ofBuf_toBuf]
@[inherit_doc rd_nullary]
theorem rd_binary (a : TRef sig Ta) (b : TRef sig Tb) (y : TRef sig Ty)
    (f : Ta.Contents (Elt F) → Tb.Contents (Elt F) → Ty.Contents (Elt F)) :
    rd ((TRef.binary (τ := τ) a b y f).result V) y = f (rd V a) (rd V b) := by
  unfold rd; rw [binary_result', TRef.ofBuf_toBuf]

/-- It leaves every other buffer as it was. -/
theorem rd_nullary_ne (y : TRef sig Ty) (v : Ty.Contents (Elt F)) (t : TRef sig T) (h : t.ref ≠ y.ref) :
    rd ((TRef.nullary (τ := τ) y v).result V) t = rd V t := by
  unfold rd; rw [nullary_result_ne' _ _ _ h]
@[inherit_doc rd_nullary_ne]
theorem rd_unary_ne (a : TRef sig Ta) (y : TRef sig Ty) (f : Ta.Contents (Elt F) → Ty.Contents (Elt F)) (t : TRef sig T)
    (h : t.ref ≠ y.ref) : rd ((TRef.unary (τ := τ) a y f).result V) t = rd V t := by
  unfold rd; rw [unary_result_ne' _ _ _ _ h]
@[inherit_doc rd_nullary_ne]
theorem rd_binary_ne (a : TRef sig Ta) (b : TRef sig Tb) (y : TRef sig Ty)
    (f : Ta.Contents (Elt F) → Tb.Contents (Elt F) → Ty.Contents (Elt F)) (t : TRef sig T) (h : t.ref ≠ y.ref) :
    rd ((TRef.binary (τ := τ) a b y f).result V) t = rd V t := by
  unfold rd; rw [binary_result_ne' (h := h)]

end Read

/-- Running one list after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The buffers that a step writes. -/
def Step.written : Step → List (Ref sig .tc)
  | .mix s c b l c' b' r o x _ _ => [s.ref, c.ref, b.ref, l.ref, c'.ref, b'.ref, r.ref, o.ref, x.ref]
  | .key _ _ b y b' y' c b'' z _ => [b.ref, y.ref, b'.ref, y'.ref, c.ref, b''.ref, z.ref]

/-- The buffers that a step reads besides the two arrays: the key words'. -/
def Step.keys : Step → List (Ref sig .tc)
  | .mix .. => []
  | .key ka kb .. => [ka.ref, kb.ref]

/-- The amounts of a round's shifts are below the width. -/
def Step.inRange : Step → Bool
  | .mix _ _ _ _ _ _ _ _ _ d d' => decide (d.toNat < 32) && decide (d'.toNat < 32)
  | .key .. => true

/-- A step writes every buffer once, none of its two arrays and none of the kept buffers `K`, and takes its key words
    from `K`. -/
def Step.ok (K : List (Ref sig .tc)) (x0 x1 : Arr) (st : Step) : Bool :=
  decide (st.written.Nodup) && decide (∀ r ∈ st.written, r ∉ K ∧ x0.ref ≠ r ∧ x1.ref ≠ r)
    && decide (∀ r ∈ st.keys, r ∈ K) && st.inRange

/-- All steps do. -/
def stepsOk (K : List (Ref sig .tc)) : List Step → Arr → Arr → Bool
  | [], _, _ => true
  | st :: sts, x0, x1 => st.ok K x0 x1 && stepsOk K sts st.out.1 st.out.2

/-- The pair of words that a step makes of a pair, the key words being those that `V` holds. -/
def Step.eval (V : Valuation τ sig (Elt F)) : Step → Word × Word → Word × Word
  | .mix _ _ _ _ _ _ _ _ _ d d', p => Hash.mix d d' p
  | .key ka kb _ _ _ _ _ _ _ n, p => inject (rd V ka fun a => a.elim0) ((rd V kb fun a => a.elim0) + n) p

/-- The pair that steps make of a pair. -/
def stepsEval (V : Valuation τ sig (Elt F)) : List Step → Word × Word → Word × Word
  | [], p => p
  | st :: sts, p => stepsEval V sts (st.eval V p)

/-- The pair of words that `V` holds at an element of two arrays. -/
def pair (V : Valuation τ sig (Elt F)) (x : Arr × Arr) (i : S16384x200.Idx) : Word × Word := (rd V x.1 i, rd V x.2 i)

/-- A step leaves the pair that its function makes, -/
theorem Step.pair_after (K : List (Ref sig .tc)) (x0 x1 : Arr) (st : Step) (h : st.ok K x0 x1 = true)
    (V : Valuation τ sig (Elt F)) (i : S16384x200.Idx) :
    pair (after (st.ops x0 x1) V) st.out i = st.eval V (pair V (x0, x1) i) := by
  cases st with
  | mix s c b l c' b' r o x d d' =>
    simp [Step.ok, Step.written, Step.inRange, Step.keys] at h
    simp [Step.ops, pair, Step.out, Step.eval, rd_nullary, rd_unary, rd_binary, rd_nullary_ne, rd_unary_ne, rd_binary_ne, h]
    refine Prod.ext rfl ?_
    show (rd V x0 i + rd V x1 i) ^^^ (IntOp.shli .host (rd V x1 i) d ||| IntOp.shrui .host (rd V x1 i) d') = _
    rw [turn_eq .host d d' _ h.2.1 h.2.2]
    rfl
  | key ka kb b y b' y' c b'' z n =>
    have hk : ∀ k ∈ [ka, kb], ∀ r ∈ [b.ref, y.ref, b'.ref, y'.ref, c.ref, b''.ref, z.ref], k.ref ≠ r := fun k hk r hr e => by
      simp only [Step.ok, Bool.and_eq_true, decide_eq_true_eq] at h
      exact (h.1.1.2 r hr).1 (e ▸ h.1.2 _ (List.mem_map_of_mem (f := fun t : One => t.ref) hk))
    simp at hk
    simp [Step.ok, Step.written, Step.inRange, Step.keys] at h
    simp [Step.ops, pair, Step.out, Step.eval, rd_nullary, rd_unary, rd_binary, rd_nullary_ne, rd_unary_ne, rd_binary_ne, h, hk]
    refine Prod.ext ?_ ?_
    · show rd V x0 i + spread (rd V ka) i = rd V x0 i + _
      exact congrArg (fun j => rd V x0 i + rd V ka j) (funext fun a => a.elim0)
    · show rd V x1 i + spread (rd V kb) i + n = rd V x1 i + (rd V kb (fun a => a.elim0) + n)
      rw [BitVec.add_assoc]
      exact congrArg (fun j => rd V x1 i + (rd V kb j + n)) (funext fun a => a.elim0)

/-- and every kept buffer as it was. -/
theorem Step.kept_after (K : List (Ref sig .tc)) (x0 x1 : Arr) (st : Step) (h : st.ok K x0 x1 = true)
    (V : Valuation τ sig (Elt F)) (r : Ref sig .tc) (hr : r ∈ K) :
    after (st.ops x0 x1) V (Proc.devRef .tc r) = V (Proc.devRef .tc r) := by
  simp only [Step.ok, Bool.and_eq_true, decide_eq_true_eq] at h
  refine after_of_writes_sub (W := st.written) _ V (forall_writes_sub_of_map ?_) fun hw => (h.1.1.2 r hw).1 hr
  cases st <;> rfl

/-- The words of a step are the same at two memories that agree on the kept buffers. -/
theorem Step.eval_congr (K : List (Ref sig .tc)) (st : Step) (hK : ∀ r ∈ st.keys, r ∈ K) (V V' : Valuation τ sig (Elt F))
    (hV : ∀ r ∈ K, V (Proc.devRef .tc r) = V' (Proc.devRef .tc r)) (p : Word × Word) : st.eval V p = st.eval V' p := by
  cases st with
  | mix => rfl
  | key ka kb =>
    have ha := hV _ (hK ka.ref (by simp [Step.keys]))
    have hb := hV _ (hK kb.ref (by simp [Step.keys]))
    simp only [Step.eval, rd, ha, hb]

/-- Steps one after another leave the pair that their functions make, and every kept buffer as it was: stated with the
    key words of a memory `V₀` that agrees on the kept buffers. -/
theorem steps_after (K : List (Ref sig .tc)) (V₀ : Valuation τ sig (Elt F)) (sts : List Step) :
    ∀ (x0 x1 : Arr) (_ : stepsOk K sts x0 x1 = true) (V : Valuation τ sig (Elt F))
      (_ : ∀ r ∈ K, V (Proc.devRef .tc r) = V₀ (Proc.devRef .tc r)),
      (∀ i, pair (after (stepsOps sts x0 x1) V) (stepsOut sts x0 x1) i = stepsEval V₀ sts (pair V (x0, x1) i))
      ∧ ∀ r ∈ K, after (stepsOps sts x0 x1) V (Proc.devRef .tc r) = V₀ (Proc.devRef .tc r) := by
  induction sts with
  | nil => exact fun x0 x1 _ V hV => ⟨fun i => rfl, hV⟩
  | cons st sts ih =>
    intro x0 x1 h V hV
    simp only [stepsOk, Bool.and_eq_true] at h
    have hk : ∀ r ∈ st.keys, r ∈ K := by
      have := h.1
      simp only [Step.ok, Bool.and_eq_true, decide_eq_true_eq] at this
      exact this.1.2
    have hst := ih st.out.1 st.out.2 h.2 (after (st.ops x0 x1) V) fun r hr =>
      (st.kept_after K x0 x1 h.1 V r hr).trans (hV r hr)
    simp only [stepsOps, after_append, stepsOut, stepsEval]
    refine ⟨fun i => (hst.1 i).trans (congrArg (stepsEval V₀ sts) ?_), hst.2⟩
    exact (st.pair_after K x0 x1 h.1 V i).trans (st.eval_congr K hk V V₀ hV _)

end Cert.ReferenceIdeal.Ops
-- ==== Proof.ReferenceEntry.lean ====
/-
  What the reference holds when the rounds of its hash begin.
-/
module

public import proofs.«01_k».proof.Proof.ReferenceSteps
public import Idealize.ShloMosaic.Lib.StableHlo.ReadAt

@[expose] public section

set_option maxRecDepth 16384

noncomputable section

namespace Cert.ReferenceIdeal.Ops

open Cert.ReferenceIdeal Cert.ReferenceIdeal.Gen Cert.Hash Idealize.ShloMosaic Idealize.ShloMosaic.StableHlo Idealize.SL.Sem

variable {F : FTy → Type} [FloatOps F] (V : Valuation τ sig (Elt F))

/-- The key is 0 and 42. -/
theorem head_keys (j : Fin 2) : rd (after mainHead V) keys (ix1 j) = if j.val = 0 then 0#32 else 42#32 := by
  unfold rd mainHead
  after_results
  simp only [TRef.ofBuf, cast_eq]
  pointwise
  fin_cases j <;> rfl

/-- The probability is one half, as a word. -/
theorem head_half (j : S_.Idx) : rd (after mainHead V) half j = FloatOps.ofBits .f32 0x3F000000#32 := by
  unfold rd mainHead
  after_reads_at

/-- The argument is as it was. -/
theorem head_argument : rd (after mainHead V) argument = rd V argument := by
  unfold rd mainHead
  after_results

/-- A count fits in 32 bits: its upper half is zero, -/
theorem count_high (i : S16384x200.Idx) : BitVec.setWidth 32 (IntOp.shrui ArithUnit.host
    (IntOp.addi (IntOp.muli 200#64 (BitVec.ofNat 64 (i 0).val)) (IntOp.muli 1#64 (BitVec.ofNat 64 (i 1).val))) 32#64)
    = 0#32 := by
  have h0 : (i 0).val < 16384 := (i 0).isLt
  have h1 : (i 1).val < 200 := (i 1).isLt
  apply BitVec.eq_of_toNat_eq
  simp [IntOp.shrui, IntOp.addi, IntOp.muli, Nat.shiftRight_eq_div_pow]
  have h : 200 * (i 0).val + (i 1).val < 4294967296 := by omega
  rw [Nat.mod_eq_of_lt (lt_trans h (by decide) : 200 * (i 0).val + (i 1).val < 18446744073709551616), Nat.div_eq_of_lt h]

/-- and its lower half is the count. -/
theorem count_low (i : S16384x200.Idx) : BitVec.setWidth 32
    (IntOp.addi (IntOp.muli 200#64 (BitVec.ofNat 64 (i 0).val)) (IntOp.muli 1#64 (BitVec.ofNat 64 (i 1).val)))
    = BitVec.ofNat 32 (200 * (i 0).val + (i 1).val) := by
  have h0 : (i 0).val < 16384 := (i 0).isLt
  have h1 : (i 1).val < 200 := (i 1).isLt
  apply BitVec.eq_of_toNat_eq
  simp [IntOp.addi, IntOp.muli]

/-- The first key word, -/
theorem middle_key0 (j : S_.Idx) : rd (after middle V) key0 j = rd V keys (ix1 0) := by
  unfold rd middle bernoulliHead uniformHead hashHead
  simp only [List.cons_append, List.nil_append]
  after_reads_at

/-- the second one, -/
theorem middle_key1 (j : S_.Idx) : rd (after middle V) key1 j = rd V keys (ix1 1) := by
  unfold rd middle bernoulliHead uniformHead hashHead
  simp only [List.cons_append, List.nil_append]
  after_reads_at

/-- and the third one, made of the two. -/
theorem middle_key2 (j : S_.Idx) : rd (after middle V) buf.v1 j = rd V keys (ix1 0) ^^^ rd V keys (ix1 1) ^^^ 466688986#32 := by
  unfold rd middle bernoulliHead uniformHead hashHead
  simp only [List.cons_append, List.nil_append]
  after_reads_at
  rfl

/-- The first array: the upper halves of the counts, and the first key word. -/
theorem middle_first (i : S16384x200.Idx) : rd (after middle V) buf.v3 i = 0#32 + rd V keys (ix1 0) := by
  unfold rd middle bernoulliHead uniformHead hashHead
  simp only [List.cons_append, List.nil_append]
  after_reads_at
  rw [count_high i]
  rfl

/-- The second array: the lower halves, and the second key word. -/
theorem middle_second (i : S16384x200.Idx) : rd (after middle V) buf.v5 i = BitVec.ofNat 32 (200 * (i 0).val + (i 1).val) + rd V keys (ix1 1) := by
  unfold rd middle bernoulliHead uniformHead hashHead
  simp only [List.cons_append, List.nil_append]
  after_reads_at
  rw [count_low i]
  rfl

/-- The lower bound of the uniform numbers is zero, as a word, -/
theorem middle_low (j : S1x1.Idx) : rd (after middle V) main_call0.call0.v2 j = FloatOps.ofBits .f32 0x00000000#32 := by
  unfold rd middle bernoulliHead uniformHead hashHead
  simp only [List.cons_append, List.nil_append]
  after_reads_at
  rfl

/-- and the upper one is one. -/
theorem middle_high (j : S1x1.Idx) : rd (after middle V) main_call0.call0.v3 j = FloatOps.ofBits .f32 0x3F800000#32 := by
  unfold rd middle bernoulliHead uniformHead hashHead
  simp only [List.cons_append, List.nil_append]
  after_reads_at
  rfl

/-- The probability is as it was, -/
theorem middle_half (j : S_.Idx) : rd (after middle V) half j = rd V half j := by
  unfold rd middle bernoulliHead uniformHead hashHead
  simp only [List.cons_append, List.nil_append]
  after_reads_at

/-- and so is the argument. -/
theorem middle_argument (i : S16384x200.Idx) : rd (after middle V) argument i = rd V argument i := by
  unfold rd middle bernoulliHead uniformHead hashHead
  simp only [List.cons_append, List.nil_append]
  after_reads_at

end Cert.ReferenceIdeal.Ops
-- ==== Proof.Uniform.lean ====
/-
  A word's upper 23 bits as a number in [0, 1): it is below one half exactly when the word, read signed, is not
  negative.
-/
module

public import proofs.«01_k».proof.Proof.Hash
public import Idealize.ShloMosaic.PureOps.Ideal

@[expose] public section

noncomputable section

namespace Cert.Hash

open Idealize.ShloMosaic

/-- 23 bits under the exponent of one: the number from one to two whose fraction they are. -/
theorem ofBits_fraction (w : Word) : Ideal.ofBits .f32 (w >>> 9 ||| 0x3F800000#32)
    = ((1 + (w.toNat / 512 : ℕ) / 8388608 : ℝ) : EReal) := by
  have hm : w.toNat / 512 < 8388608 := by have := w.isLt; omega
  have hx : (w >>> 9 ||| 0x3F800000#32).toNat = w.toNat / 512 ||| 0x3F800000 := by
    simp [Nat.shiftRight_eq_div_pow]
  generalize w.toNat / 512 = f at hm hx
  have hfr : ((w >>> 9 ||| 0x3F800000#32).extractLsb' 0 23).toNat = f := by
    rw [BitVec.extractLsb'_toNat, hx, Nat.shiftRight_zero, Nat.or_mod_two_pow]
    simp [Nat.mod_eq_of_lt hm]
  have hex : ((w >>> 9 ||| 0x3F800000#32).extractLsb' 23 8).toNat = 127 := by
    rw [BitVec.extractLsb'_toNat, hx, Nat.shiftRight_or_distrib, Nat.shiftRight_eq_div_pow f, Nat.div_eq_of_lt hm]
    rfl
  have hneg : (w >>> 9 ||| 0x3F800000#32).extractLsb' 31 1 = 0#1 := by
    apply BitVec.eq_of_toNat_eq
    rw [BitVec.extractLsb'_toNat, hx, Nat.shiftRight_or_distrib, Nat.shiftRight_eq_div_pow f,
      Nat.div_eq_of_lt (lt_trans hm (by decide))]
    rfl
  simp only [Ideal.ofBits, Ideal.ieee]
  rw [hfr, hex, hneg]
  rw [if_neg (by decide), if_neg (by decide)]
  congr 1
  norm_num
  ring

/-- The word of zero, -/
theorem ofBits_zero : Ideal.ofBits .f32 0x00000000#32 = ((0 : ℝ) : EReal) := by
  simp [Ideal.ofBits, Ideal.ieee]

/-- of one, -/
theorem ofBits_one : Ideal.ofBits .f32 0x3F800000#32 = ((1 : ℝ) : EReal) := by
  simp [Ideal.ofBits, Ideal.ieee, -EReal.coe_mul]; norm_num

/-- and of one half. -/
theorem ofBits_half : Ideal.ofBits .f32 0x3F000000#32 = ((1 / 2 : ℝ) : EReal) := by
  simp [Ideal.ofBits, Ideal.ieee, -EReal.coe_mul]; norm_num

/-- The uniform number of a word, between zero and one. -/
def uniform (w : Word) : EReal :=
  max (Ideal.ofBits .f32 0x00000000#32)
    ((Ideal.ofBits .f32 (w >>> 9 ||| 0x3F800000#32) - Ideal.ofBits .f32 0x3F800000#32)
      * (Ideal.ofBits .f32 0x3F800000#32 - Ideal.ofBits .f32 0x00000000#32) + Ideal.ofBits .f32 0x00000000#32)

/-- It is the word's upper 23 bits over 2²³. -/
theorem uniform_eq (w : Word) : uniform w = (((w.toNat / 512 : ℕ) / 8388608 : ℝ) : EReal) := by
  rw [uniform, ofBits_fraction, ofBits_zero, ofBits_one, ← EReal.coe_sub, ← EReal.coe_sub, ← EReal.coe_mul, ← EReal.coe_add]
  have h : (0 : ℝ) ≤ (w.toNat / 512 : ℕ) / 8388608 := by positivity
  rw [max_eq_right (by rw [EReal.coe_le_coe_iff]; simpa using h)]
  congr 1
  ring

/-- It is below one half exactly when the word, read signed, is at least zero. -/
theorem uniform_lt_half (w : Word) :
    Ideal.cmp .olt (uniform w) (Ideal.ofBits .f32 0x3F000000#32) = IntOp.cmpi .sge w 0#32 := by
  have h : (((w.toNat / 512 : ℕ) : ℝ) / 8388608 < 1 / 2) ↔ w.toNat < 2147483648 := by
    rw [div_lt_div_iff₀ (by norm_num) (by norm_num)]
    norm_cast
    omega
  have hs : (0 : ℤ) ≤ w.toInt ↔ w.toNat < 2147483648 := by
    rw [BitVec.toInt_eq_toNat_cond]
    have := w.isLt
    split <;> omega
  rw [uniform_eq, ofBits_half]
  simp only [Ideal.cmp, EReal.coe_lt_coe_iff, h, IntOp.cmpi]
  simp only [BitVec.sle, BitVec.toInt_zero, hs]

end Cert.Hash
-- ==== Proof.ReferenceTail.lean ====
/-
  What the reference makes of the hashed words.
-/
module

public import proofs.«01_k».proof.Proof.ReferenceSteps
public import proofs.«01_k».proof.Proof.Uniform
public import Idealize.ShloMosaic.Lib.StableHlo.ReadAt

@[expose] public section

set_option maxRecDepth 16384

noncomputable section

namespace Cert.ReferenceIdeal.Ops

open Cert.ReferenceIdeal Cert.ReferenceIdeal.Gen Cert.Hash Idealize.ShloMosaic Idealize.ShloMosaic.StableHlo Idealize.SL.Sem

variable {F : FTy → Type} [FloatOps F] (V : Valuation τ sig (Elt F))

/-- The argument is as it was. -/
theorem behind_argument (i : S16384x200.Idx) : rd (after behind V) argument i = rd V argument i := by
  unfold rd behind uniformTail bernoulliTail mainTail whereOps
  simp only [List.cons_append, List.nil_append]
  after_reads_at

/-- The result: the argument where the word the hash left, read signed, is not negative, and 5 elsewhere — for bounds
of zero and one and a probability of one half. -/
theorem behind_result (V : Valuation τ sig (Elt Ideal)) (i : S16384x200.Idx)
    (hlow : ∀ j, rd V main_call0.call0.v2 j = FloatOps.ofBits (F := Ideal) .f32 0x00000000#32)
    (hhigh : ∀ j, rd V main_call0.call0.v3 j = FloatOps.ofBits (F := Ideal) .f32 0x3F800000#32)
    (hhalf : ∀ j, rd V half j = FloatOps.ofBits (F := Ideal) .f32 0x3F000000#32) :
    rd (after behind V) (.of main_v9 : Arr) i =
      if IntOp.cmpi .sge (rd V buf.v171 i ^^^ rd V buf.v175 i) 0#32 = 1#1 then rd V argument i else 5#32 := by
  have h : rd (after behind V) (.of main_v9 : Arr) i =
      Scalar.select (FloatOps.cmpf .olt
        (FloatOps.maximumf (rd V main_call0.call0.v2 (ix2 0 0))
          (FloatOps.addf (FloatOps.mulf
            (FloatOps.subf (FloatOps.ofBits (F := Ideal) .f32 ((rd V buf.v171 i ^^^ rd V buf.v175 i) >>> 9 ||| 0x3F800000#32))
              (FloatOps.ofBits (F := Ideal) .f32 0x3F800000#32))
            (FloatOps.subf (rd V main_call0.call0.v3 (ix2 0 0)) (rd V main_call0.call0.v2 (ix2 0 0))))
            (rd V main_call0.call0.v2 (ix2 0 0))))
        (rd V half ix0)) (rd V argument i) 5#32 := by
    unfold rd behind uniformTail bernoulliTail mainTail whereOps
    simp only [List.cons_append, List.nil_append]
    after_reads_at
    rfl
  rw [h, hlow, hhigh, hhalf, ← uniform_lt_half]
  rfl

end Cert.ReferenceIdeal.Ops
-- ==== Proof.ReferenceValue.lean ====
/-
  What the reference computes: every entry kept or replaced by the sign of its hashed count.
-/
module

public import proofs.«01_k».proof.Proof.ReferenceEntry
public import proofs.«01_k».proof.Proof.ReferenceTail
public import Idealize.ShloMosaic.Lib.StableHlo.RunHlo

@[expose] public section

set_option maxRecDepth 16384

noncomputable section

namespace Cert.ReferenceIdeal.Ops

open Cert.ReferenceIdeal Cert.ReferenceIdeal.Gen Cert.Hash Idealize.ShloMosaic Idealize.ShloMosaic.StableHlo Idealize.SL.Sem

variable {F : FTy → Type} [FloatOps F] (V : Valuation τ sig (Elt F))

/-- The memory when the rounds begin. -/
abbrev entry : Valuation τ sig (Elt F) := after middle (after mainHead V)

/-- What the rounds leave alone and later operations read, and what they themselves read: the key words, the bounds, the
probability, the argument. -/
def kept : List (Ref sig .tc) :=
  [key0.ref, key1.ref, buf.v1.ref, main_call0.call0.v2.ref, main_call0.call0.v3.ref, half.ref, argument.ref]

/-- Each of the hash's steps writes buffers of its own, none of them kept. -/
theorem hashSteps_fresh : stepsOk kept (hashSteps key0 key1 buf) buf.v3 buf.v5 = true := by
  decide +kernel

/-- The first key word is 0, -/
theorem entry_key0 (j : S_.Idx) : rd (entry V) key0 j = 0#32 := by
  rw [middle_key0, head_keys]; rfl

/-- the second is 42, -/
theorem entry_key1 (j : S_.Idx) : rd (entry V) key1 j = 42#32 := by
  rw [middle_key1, head_keys]; rfl

/-- and the third is made of the two. -/
theorem entry_key2 (j : S_.Idx) : rd (entry V) buf.v1 j = 466689008#32 := by
  rw [middle_key2, head_keys, head_keys]
  simp

/-- The hash's steps at the key words 0, 42 and 466689008, on the pair of zero and a word, are the hash of that word. -/
theorem hashSteps_eval (arg0 arg1 : One) (φ : fn_threefry2x32.Bufs) (h0 : ∀ j, rd V arg0 j = 0#32)
    (h1 : ∀ j, rd V arg1 j = 42#32) (h2 : ∀ j, rd V φ.v1 j = 466689008#32) (w : Word) :
    stepsEval V (hashSteps arg0 arg1 φ) (0#32, w) = finish (roundsA₀ w) := by
  rw [← roundsA_zero]
  simp only [hashSteps, stepsEval, Step.eval, h0, h1, h2, BitVec.reduceAdd, finish, roundsA, roundsB]

/-- What the rounds leave in each entry's pair of words. -/
theorem rounds_pair (i : S16384x200.Idx) :
    pair (after rounds (entry V)) (buf.v171, buf.v175) i = finish (roundsA₀ (counter (i 0).val (i 1).val)) := by
  have h := (steps_after kept (entry V) (hashSteps key0 key1 buf) buf.v3 buf.v5 hashSteps_fresh (entry V) fun _ _ => rfl).1 i
  refine h.trans ?_
  rw [pair, middle_first, middle_second, head_keys, head_keys]
  exact hashSteps_eval (entry V) key0 key1 buf (entry_key0 V) (entry_key1 V) (entry_key2 V) _

/-- What the rounds leave alone. -/
theorem rounds_kept : ∀ r ∈ kept, after rounds (entry V) (Proc.devRef .tc r) = entry V (Proc.devRef .tc r) :=
  (steps_after kept (entry V) (hashSteps key0 key1 buf) buf.v3 buf.v5 hashSteps_fresh (entry V) fun _ _ => rfl).2

/-- The argument after every operation is the argument before them. -/
theorem all_argument (i : S16384x200.Idx) :
    rd (after (mainHead ++ middle ++ rounds ++ behind) V) argument i = rd V argument i := by
  have h : rd (after rounds (entry V)) argument = rd (entry V) argument :=
    congrArg argument.ofBuf (rounds_kept V argument.ref (by simp [kept]))
  rw [after_append, after_append, after_append, behind_argument, h, middle_argument, head_argument]

/-- The result after every operation: each entry of the argument, kept or replaced. -/
theorem all_result (V : Valuation τ sig (Elt Ideal)) (i : S16384x200.Idx) :
    rd (after (mainHead ++ middle ++ rounds ++ behind) V) (.of main_v9 : Arr) i
      = replaced (i 0).val (i 1).val (rd V argument i) := by
  have hk {T : BufTy} (t : TRef sig T) (ht : t.ref ∈ kept) : rd (after rounds (entry V)) t = rd (entry V) t :=
    congrArg t.ofBuf (rounds_kept V t.ref ht)
  have hp := rounds_pair V i
  rw [after_append, after_append, after_append, behind_result]
  · rw [hk argument (by simp [kept]), middle_argument, head_argument]
    have h1 : rd (after rounds (entry V)) buf.v171 i = (finish (roundsA₀ (counter (i 0).val (i 1).val))).1 := congrArg Prod.fst hp
    have h2 : rd (after rounds (entry V)) buf.v175 i = (finish (roundsA₀ (counter (i 0).val (i 1).val))).2 := congrArg Prod.snd hp
    rw [h1, h2]
    rfl
  · intro j; rw [hk _ (by simp [kept]), middle_low]
  · intro j; rw [hk _ (by simp [kept]), middle_high]
  · intro j; rw [hk half (by simp [kept]), middle_half, head_half]

end Cert.ReferenceIdeal.Ops
-- ==== Proof.ReferenceRun.lean ====
/-
  The reference's run: what its result array holds at the end, its argument unchanged, every semaphore at zero.
-/
module

public import proofs.«01_k».proof.Proof.ReferenceValue
public import Idealize.ShloMosaic.Lib.StableHlo.RunHlo
public import Idealize.ShloMosaic.Lib.Quiescent
public import Idealize.ShloMosaic.Init

@[expose] public section

set_option maxRecDepth 16384

noncomputable section

namespace Cert.ReferenceIdeal.Ops

open Cert.ReferenceIdeal Cert.ReferenceIdeal.Gen Cert.Hash Idealize.ShloMosaic Idealize.ShloMosaic.StableHlo Idealize.ShloMosaic.TcCoe Idealize.SL.Sem

variable {F : FTy → Type} [FloatOps F]

/-- An operation over the processor's own buffers that scopes none. -/
def Plain (op : HloOp τ sig (Elt F)) : Prop := op.bufs ⊆ tcRefs τ sig ∧ op.fresh = ∅

/-- The operations of the hash's steps are plain. -/
theorem steps_plain (sts : List Step) : ∀ x0 x1 : Arr, (stepsOps (F := F) sts x0 x1).Forall Plain := by
  induction sts with
  | nil => exact fun _ _ => trivial
  | cons st sts ih =>
    intro x0 x1
    rw [stepsOps, List.forall_append]
    refine ⟨?_, ih _ _⟩
    cases st <;> simp [Step.ops, Plain, TRef.binary, TRef.unary, TRef.nullary] <;> trivial

/-- So is every operation of the reference. -/
theorem all_plain : (mainHead ++ middle ++ rounds ++ behind : List (HloOp τ sig (Elt F))).Forall Plain := by
  rw [List.forall_append, List.forall_append, List.forall_append]
  refine ⟨⟨⟨?_, ?_⟩, steps_plain _ _ _⟩, ?_⟩
  · simp [mainHead, Plain] <;> trivial
  · simp [middle, bernoulliHead, uniformHead, hashHead, Plain, TRef.binary, TRef.unary, TRef.nullary, TRef.reshape] <;> trivial
  · simp [behind, uniformTail, bernoulliTail, mainTail, whereOps, Plain, TRef.binary, TRef.unary, TRef.nullary, TRef.ternary] <;> trivial

variable (m : (ℓ : Loc nD τ sig) → Buf (Elt Ideal) ℓ) (ρ : Dev nD → PrngReg)

/-- The run: the result array holds every element of the argument array kept or replaced, the argument is unchanged,
and every semaphore reads zero. -/
theorem run : θ_run defs (onTc (τ := τ) (main (F := Ideal))) ⟨m, fun _ => 0, ρ⟩ fun r => (∀ c : Dev nD,
      r.2.mem ((c : Thread nD τ).loc main_v9)
        = (fun y : S16384x200.Idx => replaced (y 0) (y 1) ((m ((c : Thread nD τ).loc main_arg0) : Vec Ideal S16384x200 .i32) y))
      ∧ r.2.mem ((c : Thread nD τ).loc main_arg0) = m ((c : Thread nD τ).loc main_arg0))
      ∧ r.2.sem = fun _ => 0 := by
  refine (θ_run defs _ _).mono ?_ (run_hlo defs main main_eq (by decide) (by decide)
    (all_plain.imp fun _ h => h.1) (fun op h => (List.forall_iff_forall_mem.1 all_plain op h).2) m ρ)
  intro r h
  refine ⟨fun c => ⟨?_, ?_⟩, sem_eq_zero_of_no_sems (by decide) r.2⟩
  · rw [h c main_v9]
    exact funext fun y => all_result (launchContents m c) y
  · rw [h c main_arg0]
    exact funext fun y => all_argument (launchContents m c) y

end Cert.ReferenceIdeal.Ops
-- ==== Proof.lean ====
/-
  The certificate's claims: the kernel, its idealization and the reference run, leave their argument unchanged and end
  with every semaphore at zero; the idealization is the kernel's own text; and it and the reference, over exact
  arithmetic, end with equal results. The modules under Proof/ carry the argument; this one puts it together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelArray
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The kernel's program and the reference end with equal results: both keep or replace each element by the same word. -/
theorem equal_results : Cert.algebraic_KernelIdeal_ReferenceIdeal := by
  intro m g m' g' _ hagree
  refine ⟨_, Cert.KernelIdeal.Array.run m g, (θ_run Cert.ReferenceIdeal.defs _ _).mono ?_ (Cert.ReferenceIdeal.Ops.run m' g')⟩
  intro r h c
  refine ⟨(h.1 c).1.trans ?_, (h.1 c).2⟩
  rw [hagree c]

/-- The reference runs, leaves its argument unchanged and every semaphore at zero. -/
theorem reference_frame : Cert.quiescent_ReferenceIdeal := by
  intro m g _
  refine (θ_run Cert.ReferenceIdeal.defs _ _).mono ?_ (Cert.ReferenceIdeal.Ops.run m g)
  exact fun r h => ⟨fun c => (h.1 c).2, h.2⟩

/-- The claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
